-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x300x224x224 : Shape := ⟨4, ![3, 300, 224, 224]⟩
abbrev S3x32x224x224 : Shape := ⟨4, ![3, 32, 224, 224]⟩
abbrev S8x1x1x224x224 : Shape := ⟨5, ![8, 1, 1, 224, 224]⟩
abbrev S8 : Shape := ⟨1, ![8]⟩
abbrev S1 : Shape := ⟨1, ![1]⟩
abbrev S_ : Shape := ⟨0, ![]⟩
abbrev S1x1x1x224x224 : Shape := ⟨5, ![1, 1, 1, 224, 224]⟩
abbrev S1x1x224x224 : Shape := ⟨4, ![1, 1, 224, 224]⟩

abbrev nBuf : Table → Nat
  | .hbm => 2
  | .shared => 1
  | _ => 0

abbrev bufTy : (tb : Table) → Fin (nBuf tb) → BufTy
  | .hbm, ⟨0, _⟩ => ⟨S3x300x224x224, .f32⟩
  | .hbm, ⟨1, _⟩ => ⟨S3x32x224x224, .f32⟩
  | .shared, ⟨0, _⟩ => ⟨S8x1x1x224x224, .f32⟩
  | _, _ => ⟨S3x300x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 4 → Nat :=
  let arg0 : BitVec 32 := BitVec.ofNat 32 (i 0).val
  let c48_i32 : BitVec 32 := 48#32
  let v0 : BitVec 32 := Scalar.muli arg0 c48_i32
  let v1 : BitVec 32 := Scalar.addi v0 c0_i32
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c32_i32_4 : BitVec 32 := 32#32
  let c0_i32_7 : BitVec 32 := 0#32
  let v18 : BitVec 1 := Scalar.cmpi .sgt c32_i32_4 c0_i32_7
  let v19 : BitVec 32 := Scalar.extui v18
  let c0_i32_8 : BitVec 32 := 0#32
  let v20 : BitVec 1 := Scalar.cmpi .slt c32_i32_4 c0_i32_8
  let v21 : BitVec 32 := Scalar.extui v20
  let v22 : BitVec 32 := Scalar.subi v19 v21
  let v23 : BitVec 1 := Scalar.cmpi .ne v17 v22
  let v24 : BitVec 32 := Scalar.remsi v1 c32_i32_4
  let c0_i32_9 : BitVec 32 := 0#32
  let v25 : BitVec 1 := Scalar.cmpi .ne v24 c0_i32_9
  let v26 : BitVec 1 := Scalar.andi v23 v25
  let v12 : BitVec 32 := Scalar.divsi v1 c32_i32_4
  let c1_i32_10 : BitVec 32 := 1#32
  let v27 : BitVec 32 := Scalar.subi v12 c1_i32_10
  let v28 : BitVec 32 := Scalar.select v26 v27 v12
  let c299_i32 : BitVec 32 := 299#32
  let c32_i32 : BitVec 32 := 32#32
  let c0_i32_0 : BitVec 32 := 0#32
  let v2 : BitVec 1 := Scalar.cmpi .eq c32_i32 c0_i32_0
  let c1_i32 : BitVec 32 := 1#32
  let v3 : BitVec 32 := Scalar.select v2 c1_i32 c32_i32
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v29 : BitVec 32 := Scalar.muli c299_i32 v11
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c31_i32 : BitVec 32 := 31#32
  let c0_i32_13 : BitVec 32 := 0#32
  let v36 : BitVec 1 := Scalar.cmpi .sgt c31_i32 c0_i32_13
  let v37 : BitVec 32 := Scalar.extui v36
  let c0_i32_14 : BitVec 32 := 0#32
  let v38 : BitVec 1 := Scalar.cmpi .slt c31_i32 c0_i32_14
  let v39 : BitVec 32 := Scalar.extui v38
  let v40 : BitVec 32 := Scalar.subi v37 v39
  let v41 : BitVec 1 := Scalar.cmpi .ne v35 v40
  let v42 : BitVec 32 := Scalar.remsi v29 c31_i32
  let c0_i32_15 : BitVec 32 := 0#32
  let v43 : BitVec 1 := Scalar.cmpi .ne v42 c0_i32_15
  let v44 : BitVec 1 := Scalar.andi v41 v43
  let v30 : BitVec 32 := Scalar.divsi v29 c31_i32
  let c1_i32_16 : BitVec 32 := 1#32
  let v45 : BitVec 32 := Scalar.subi v30 c1_i32_16
  let v46 : BitVec 32 := Scalar.select v44 v45 v30
  let c0_i32_23 : BitVec 32 := 0#32
  let c0_i32_24 : BitVec 32 := 0#32
  ![v28.toNat, v46.toNat, 0, 0]
def k0_off2 (i : grid0.Coords) (c0_i32_155 : BitVec 32) : Fin 4 → Nat :=
  let arg0 : BitVec 32 := BitVec.ofNat 32 (i 0).val
  let c48_i32_154 : BitVec 32 := 48#32
  let v265 : BitVec 32 := Scalar.muli arg0 c48_i32_154
  let v266 : BitVec 32 := Scalar.addi v265 c0_i32_155
  let c0_i32_163 : BitVec 32 := 0#32
  let v278 : BitVec 1 := Scalar.cmpi .sgt v266 c0_i32_163
  let v279 : BitVec 32 := Scalar.extui v278
  let c0_i32_164 : BitVec 32 := 0#32
  let v280 : BitVec 1 := Scalar.cmpi .slt v266 c0_i32_164
  let v281 : BitVec 32 := Scalar.extui v280
  let v282 : BitVec 32 := Scalar.subi v279 v281
  let c32_i32_162 : BitVec 32 := 32#32
  let c0_i32_165 : BitVec 32 := 0#32
  let v283 : BitVec 1 := Scalar.cmpi .sgt c32_i32_162 c0_i32_165
  let v284 : BitVec 32 := Scalar.extui v283
  let c0_i32_166 : BitVec 32 := 0#32
  let v285 : BitVec 1 := Scalar.cmpi .slt c32_i32_162 c0_i32_166
  let v286 : BitVec 32 := Scalar.extui v285
  let v287 : BitVec 32 := Scalar.subi v284 v286
  let v288 : BitVec 1 := Scalar.cmpi .ne v282 v287
  let v289 : BitVec 32 := Scalar.remsi v266 c32_i32_162
  let c0_i32_167 : BitVec 32 := 0#32
  let v290 : BitVec 1 := Scalar.cmpi .ne v289 c0_i32_167
  let v291 : BitVec 1 := Scalar.andi v288 v290
  let v277 : BitVec 32 := Scalar.divsi v266 c32_i32_162
  let c1_i32_168 : BitVec 32 := 1#32
  let v292 : BitVec 32 := Scalar.subi v277 c1_i32_168
  let v293 : BitVec 32 := Scalar.select v291 v292 v277
  let c32_i32_156 : BitVec 32 := 32#32
  let c0_i32_157 : BitVec 32 := 0#32
  let v267 : BitVec 1 := Scalar.cmpi .eq c32_i32_156 c0_i32_157
  let c1_i32_158 : BitVec 32 := 1#32
  let v268 : BitVec 32 := Scalar.select v267 c1_i32_158 c32_i32_156
  let v269 : BitVec 32 := Scalar.remsi v266 v268
  let c0_i32_160 : BitVec 32 := 0#32
  let v271 : BitVec 1 := Scalar.cmpi .slt v269 c0_i32_160
  let c0_i32_161 : BitVec 32 := 0#32
  let v272 : BitVec 1 := Scalar.cmpi .slt v268 c0_i32_161
  let v273 : BitVec 1 := Scalar.xori v271 v272
  let c0_i32_159 : BitVec 32 := 0#32
  let v270 : BitVec 1 := Scalar.cmpi .ne v269 c0_i32_159
  let v274 : BitVec 1 := Scalar.andi v273 v270
  let v275 : BitVec 32 := Scalar.addi v269 v268
  let v276 : BitVec 32 := Scalar.select v274 v275 v269
  let c0_i32_179 : BitVec 32 := 0#32
  let c0_i32_180 : BitVec 32 := 0#32
  ![v293.toNat, v276.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S3x300x224x224 : Shape := ⟨4, ![3, 300, 224, 224]⟩
abbrev S_ : Shape := ⟨0, ![]⟩
abbrev S31 : Shape := ⟨1, ![31]⟩
abbrev S1 : Shape := ⟨1, ![1]⟩
abbrev S32 : Shape := ⟨1, ![32]⟩
abbrev S32x1 : Shape := ⟨2, ![32, 1]⟩
abbrev S1x1 : Shape := ⟨2, ![1, 1]⟩
abbrev S3x32x224x224 : Shape := ⟨4, ![3, 32, 224, 224]⟩

abbrev nBuf : Space → Nat
  | .hbm => 56
  | .vmem => 0
  | .smem => 0
  | _ => 0

abbrev bufTy : (tb : Table) → Fin (tcTables nBuf tb) → BufTy
  | .hbm, ⟨0, _⟩ => ⟨S3x300x224x224, .f32⟩
  | .hbm, ⟨1, _⟩ => ⟨S_, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S31, .f32⟩
  | .hbm, ⟨9, _⟩ => ⟨S_, .f32⟩
  | .hbm, ⟨10, _⟩ => ⟨S31, .f32⟩
  | .hbm, ⟨11, _⟩ => ⟨S31, .f32⟩
  | .hbm, ⟨12, _⟩ => ⟨S1, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S1, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S32, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1, .i32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S1x1, .i32⟩
  | .hbm, ⟨46, _⟩ => ⟨S32x1, .i32⟩
  | .hbm, ⟨47, _⟩ => ⟨S32x1, .i1⟩
  | .hbm, ⟨48, _⟩ => ⟨S32x1, .i1⟩
  | .hbm, ⟨49, _⟩ => ⟨S_, .i1⟩
  | .hbm, ⟨50, _⟩ => ⟨S32, .i1⟩
  | .hbm, ⟨51, _⟩ => ⟨S3x32x224x224, .f32⟩
  | .hbm, ⟨52, _⟩ => ⟨S3x32x224x224, .i1⟩
  | .hbm, ⟨53, _⟩ => ⟨S_, .f32⟩
  | .hbm, ⟨54, _⟩ => ⟨S3x32x224x224, .f32⟩
  | .hbm, ⟨55, _⟩ => ⟨S3x32x224x224, .f32⟩
  | _, _ => ⟨S3x300x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_c_0 : Ref sig .tc := ⟨.hbm, 24, rfl⟩
abbrev main_c_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v1 : Ref sig .tc := ⟨.hbm, 31, rfl⟩
abbrev main_v2 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v3 : Ref sig .tc := ⟨.hbm, 55, rfl⟩

abbrev nD : Nat := 1
abbrev τ : Topo := Topo.v7x

variable {F : FTy → Type} [FloatOps F]
-- ==== Proof.Steps.lean ====
/-
  The kernel on one SparseCore's sequencer as a list of steps: start reading frame `r`, wait for that read, start writing
  frame `r`, wait for that write. Frame `r` goes through slot `r % 8` of the shared buffer, its two transfers on that
  slot's read and write semaphores.
-/
module

public import Idealize.ShloMosaic.Adequacy
public import Idealize.ShloMosaic.Lib.SparseCore.Quiescent
public import Idealize.ShloMosaic.Lib.Transfers
public import Idealize.ShloMosaic.Lib.Ring
public import proofs.«01_k».proof.Proof.Gen.KernelIdeal

@[expose] public section

noncomputable section

namespace Cert.Proof.Frames

open Cert.KernelIdeal Cert.KernelIdeal.Gen
open Idealize.ShloMosaic Idealize.SL.Sem

variable {F : FTy → Type}

/-- The slot frame `r` goes through. -/
def slotOf (r : Fin 48) : Fin 8 := ⟨r.val % 8, Nat.mod_lt _ (by decide)⟩

theorem inb_slot (b : Fin 8) : ∀ a, (![b.val, 0, 0, 0, 0] : Fin 5 → Nat) a + S1x1x1x224x224.size a ≤ S8x1x1x224x224.size a := by
  have := b.isLt; intro a; fin_cases a <;> simp <;> omega
theorem inb_sem (b : Fin 8) : ∀ a, (![b.val] : Fin 1 → Nat) a + S1.size a ≤ S8.size a := by
  have := b.isLt; intro a; fin_cases a; simp; omega

section Views

variable (i : grid0.Coords) (arg1 : Memref sig .scScalar .hbm S3x300x224x224 .f32) (arg2 : Memref sig .scScalar .hbm S3x32x224x224 .f32)
  (arg3 : Memref sig .scScalar .shared S8x1x1x224x224 .f32) (arg4 arg5 : DmaSems sig S8)

/-- The frame of the input that frame `r` is taken from. -/
abbrev srcM (r : Fin 48) : Memref sig .scScalar .hbm S1x1x224x224 .f32 :=
  arg1.slice (Rect.unit (s := S3x300x224x224) (k0_off1 i (BitVec.ofNat 32 r.val)) S1x1x224x224.size (k0_off1_inb i r)) (fun _ => rfl)
/-- Frame `r` of the result. -/
abbrev outM (r : Fin 48) : Memref sig .scScalar .hbm S1x1x224x224 .f32 :=
  arg2.slice (Rect.unit (s := S3x32x224x224) (k0_off2 i (BitVec.ofNat 32 r.val)) S1x1x224x224.size (k0_off2_inb i r)) (fun _ => rfl)
/-- Slot `b` of the shared buffer. -/
abbrev slotM (b : Fin 8) : Memref sig .scScalar .shared S1x1x224x224 .f32 :=
  (arg3.slice (Rect.unit (s := S8x1x1x224x224) ![b.val, 0, 0, 0, 0] S1x1x1x224x224.size (inb_slot b)) (fun _ => rfl)).squeeze S1x1x224x224
    squeezes_S1x1x1x224x224_S1x1x224x224
/-- Semaphore `b` of an array of eight. -/
abbrev semM (A : DmaSems sig S8) (b : Fin 8) : DmaSem sig :=
  ((A.slice (Rect.unit (s := S8) ![b.val] S1.size (inb_sem b))).squeeze S_ squeezes_S1_S_).sem

end Views

/-- One step of the kernel. -/
inductive Step where
  | rd (r : Fin 48)
  | rdw (r : Fin 48)
  | wr (r : Fin 48)
  | wrw (r : Fin 48)
  deriving DecidableEq

variable [FloatOps F]

section Prog

variable (i : grid0.Coords) (arg1 : Memref sig .scScalar .hbm S3x300x224x224 .f32) (arg2 : Memref sig .scScalar .hbm S3x32x224x224 .f32)
  (arg3 : Memref sig .scScalar .shared S8x1x1x224x224 .f32) (arg4 arg5 : DmaSems sig S8)

/-- A step, then the rest. -/
def Step.exec (s : Step) (k : Prog (TpuEff nD τ sig (Elt F) Λ₀ (.scScalar ((i 0).castLE hcore0))) PUnit) :
    Prog (TpuEff nD τ sig (Elt F) Λ₀ (.scScalar ((i 0).castLE hcore0))) PUnit :=
  match s with
  | .rd r => .op (.enqueueDma (srcM i arg1 r) (.here (slotM arg3 (slotOf r))) (.dma (semM arg4 (slotOf r)))
      (View.wordExact_bits rfl) ((View.wordExact_bits rfl).reshape _ _) ⟨Or.inl rfl, trivial⟩) fun _ => k
  | .rdw r => .op (.waitDma2 (semM arg4 (slotOf r)) (srcM i arg1 r) (slotM arg3 (slotOf r))
      (View.wordExact_bits rfl) ((View.wordExact_bits rfl).reshape _ _)) fun _ => k
  | .wr r => .op (.enqueueDma (slotM arg3 (slotOf r)) (.here (outM i arg2 r)) (.dma (semM arg5 (slotOf r)))
      ((View.wordExact_bits rfl).reshape _ _) (View.wordExact_bits rfl) ⟨Or.inl rfl, trivial⟩) fun _ => k
  | .wrw r => .op (.waitDma2 (semM arg5 (slotOf r)) (slotM arg3 (slotOf r)) (outM i arg2 r)
      ((View.wordExact_bits rfl).reshape _ _) (View.wordExact_bits rfl)) fun _ => k

/-- A list of steps in turn. -/
def run : List Step → Prog (TpuEff nD τ sig (Elt F) Λ₀ (.scScalar ((i 0).castLE hcore0))) PUnit
  | [] => .ret ⟨⟩
  | s :: l => s.exec i arg1 arg2 arg3 arg4 arg5 (run l)

end Prog

/-- The kernel's steps, one line per trip of its loop; last, the waits for the writes still out. -/
def steps : List Step := [
  .rd 0,
  .rd 1,
  .rd 2,
  .rd 3,
  .rd 4, .rdw 0, .wr 0,
  .rd 5, .rdw 1, .wr 1,
  .rd 6, .rdw 2, .wr 2,
  .rd 7, .rdw 3, .wr 3,
  .wrw 0, .rd 8, .rdw 4, .wr 4,
  .wrw 1, .rd 9, .rdw 5, .wr 5,
  .wrw 2, .rd 10, .rdw 6, .wr 6,
  .wrw 3, .rd 11, .rdw 7, .wr 7,
  .wrw 4, .rd 12, .rdw 8, .wr 8,
  .wrw 5, .rd 13, .rdw 9, .wr 9,
  .wrw 6, .rd 14, .rdw 10, .wr 10,
  .wrw 7, .rd 15, .rdw 11, .wr 11,
  .wrw 8, .rd 16, .rdw 12, .wr 12,
  .wrw 9, .rd 17, .rdw 13, .wr 13,
  .wrw 10, .rd 18, .rdw 14, .wr 14,
  .wrw 11, .rd 19, .rdw 15, .wr 15,
  .wrw 12, .rd 20, .rdw 16, .wr 16,
  .wrw 13, .rd 21, .rdw 17, .wr 17,
  .wrw 14, .rd 22, .rdw 18, .wr 18,
  .wrw 15, .rd 23, .rdw 19, .wr 19,
  .wrw 16, .rd 24, .rdw 20, .wr 20,
  .wrw 17, .rd 25, .rdw 21, .wr 21,
  .wrw 18, .rd 26, .rdw 22, .wr 22,
  .wrw 19, .rd 27, .rdw 23, .wr 23,
  .wrw 20, .rd 28, .rdw 24, .wr 24,
  .wrw 21, .rd 29, .rdw 25, .wr 25,
  .wrw 22, .rd 30, .rdw 26, .wr 26,
  .wrw 23, .rd 31, .rdw 27, .wr 27,
  .wrw 24, .rd 32, .rdw 28, .wr 28,
  .wrw 25, .rd 33, .rdw 29, .wr 29,
  .wrw 26, .rd 34, .rdw 30, .wr 30,
  .wrw 27, .rd 35, .rdw 31, .wr 31,
  .wrw 28, .rd 36, .rdw 32, .wr 32,
  .wrw 29, .rd 37, .rdw 33, .wr 33,
  .wrw 30, .rd 38, .rdw 34, .wr 34,
  .wrw 31, .rd 39, .rdw 35, .wr 35,
  .wrw 32, .rd 40, .rdw 36, .wr 36,
  .wrw 33, .rd 41, .rdw 37, .wr 37,
  .wrw 34, .rd 42, .rdw 38, .wr 38,
  .wrw 35, .rd 43, .rdw 39, .wr 39,
  .wrw 36, .rd 44, .rdw 40, .wr 40,
  .wrw 37, .rd 45, .rdw 41, .wr 41,
  .wrw 38, .rd 46, .rdw 42, .wr 42,
  .wrw 39, .rd 47, .rdw 43, .wr 43,
  .rdw 44, .wr 44,
  .rdw 45, .wr 45,
  .rdw 46, .wr 46,
  .rdw 47, .wr 47,
  .wrw 40, .wrw 41, .wrw 42, .wrw 43, .wrw 44, .wrw 45, .wrw 46, .wrw 47]

set_option maxRecDepth 65536 in
/-- The printed kernel is those steps. -/
theorem cc0_k_eq (i : grid0.Coords) (arg1 : Memref sig .scScalar .hbm S3x300x224x224 .f32) (harg1 : arg1.IsWhole)
    (arg2 : Memref sig .scScalar .hbm S3x32x224x224 .f32) (harg2 : arg2.IsWhole)
    (arg3 : Memref sig .scScalar .shared S8x1x1x224x224 .f32) (harg3 : arg3.IsWhole) (arg4 arg5 : DmaSems sig S8) :
    cc0_k (F := F) i arg1 harg1 arg2 harg2 arg3 harg3 arg4 arg5 = run i arg1 arg2 arg3 arg4 arg5 steps := rfl

end Cert.Proof.Frames

end
-- ==== Proof.Values.lean ====
/-
  What the kernel moves: frame `j` of channel `c` of the result is frame `299 * j / 31` of channel `c` of the input. The
  frames the two SparseCores write are disjoint and together the whole result; the slots of the shared buffer likewise.
-/
module

public import proofs.«01_k».proof.Proof.Steps

@[expose] public section

noncomputable section

namespace Cert.Proof.Frames

open Cert.KernelIdeal Cert.KernelIdeal.Gen
open Idealize.ShloMosaic Idealize.SL.Sem

variable {F : FTy → Type}

/-- The input's index an index of the result is taken from. -/
def srcIdx (y : S3x32x224x224.Idx) : S3x300x224x224.Idx := fun a => match a with
  | 0 => y 0
  | 1 => ⟨299 * (y 1).val / 31, by have : (y 1).val < 32 := (y 1).isLt; show _ < 300; omega⟩
  | 2 => y 2
  | 3 => y 3

/-- The grid point of SparseCore `c`. -/
def coordsS (c : Fin (grid0.bound 0)) : grid0.Coords := fun | 0 => c | ⟨_ + 1, h⟩ => absurd h (Nat.not_lt.2 (Nat.le_add_left _ _))

theorem off2_eq : ∀ (c : Fin (grid0.bound 0)) (r : Fin 48),
    k0_off2 (coordsS c) (BitVec.ofNat 32 r.val) = ![(48 * c.val + r.val) / 32, (48 * c.val + r.val) % 32, 0, 0] := by decide +kernel
theorem off1_eq : ∀ (c : Fin (grid0.bound 0)) (r : Fin 48),
    k0_off1 (coordsS c) (BitVec.ofNat 32 r.val) = ![(48 * c.val + r.val) / 32, 299 * ((48 * c.val + r.val) % 32) / 31, 0, 0] := by decide +kernel

/-- The arrays as the sequencer names them. -/
abbrev xW : Memref sig .scScalar .hbm S3x300x224x224 .f32 := Memref.whole main_arg0_scs
abbrev oW : Memref sig .scScalar .hbm S3x32x224x224 .f32 := Memref.whole main_v0_scs
abbrev shW : Memref sig .scScalar .shared S8x1x1x224x224 .f32 := Memref.whole cc0_scratch0

abbrev srcR (c : Fin (grid0.bound 0)) (r : Fin 48) : Rect S3x300x224x224 :=
  Rect.unit (s := S3x300x224x224) (k0_off1 (coordsS c) (BitVec.ofNat 32 r.val)) S1x1x224x224.size (k0_off1_inb (coordsS c) r)
abbrev outR (c : Fin (grid0.bound 0)) (r : Fin 48) : Rect S3x32x224x224 :=
  Rect.unit (s := S3x32x224x224) (k0_off2 (coordsS c) (BitVec.ofNat 32 r.val)) S1x1x224x224.size (k0_off2_inb (coordsS c) r)
abbrev slotR (b : Fin 8) : Rect S8x1x1x224x224 :=
  Rect.unit (s := S8x1x1x224x224) ![b.val, 0, 0, 0, 0] S1x1x1x224x224.size (inb_slot b)

theorem srcIdx_emb (c : Fin (grid0.bound 0)) (r : Fin 48) (x : S1x1x224x224.Idx) :
    srcIdx ((outR c r).emb x) = (srcR c r).emb x := by
  have h2 := off2_eq c r
  have h1 := off1_eq c r
  have hx0 : (x 0).val = 0 := by have : (x 0).val < 1 := (x 0).isLt; omega
  have hx1 : (x 1).val = 0 := by have : (x 1).val < 1 := (x 1).isLt; omega
  funext a
  apply Fin.ext
  have e0 : ∀ a, ((outR c r).emb x a).val = k0_off2 (coordsS c) (BitVec.ofNat 32 r.val) a + 1 * (x a).val := fun _ => rfl
  have e1 : ∀ a, ((srcR c r).emb x a).val = k0_off1 (coordsS c) (BitVec.ofNat 32 r.val) a + 1 * (x a).val := fun _ => rfl
  fin_cases a
  · show ((outR c r).emb x 0).val = ((srcR c r).emb x 0).val
    rw [e0, e1, h1, h2]; rfl
  · show 299 * ((outR c r).emb x 1).val / 31 = ((srcR c r).emb x 1).val
    rw [e0, e1, h1, h2, hx1]; rfl
  · show ((outR c r).emb x 2).val = ((srcR c r).emb x 2).val
    rw [e0, e1, h1, h2]; rfl
  · show ((outR c r).emb x 3).val = ((srcR c r).emb x 3).val
    rw [e0, e1, h1, h2]; rfl

/-- The result, of the input `X`. -/
def taken {α : Type} (X : S3x300x224x224.Idx → α) : S3x32x224x224.Idx → α := fun y => X (srcIdx y)

theorem read_taken (c : Fin (grid0.bound 0)) (r : Fin 48) (X : S3x300x224x224.Idx → Elt F .f32) :
    (outM (coordsS c) oW r).view.read (Elt F) (taken X) = (srcM (coordsS c) xW r).view.read (Elt F) X := by
  funext x
  show X (srcIdx ((outR c r).emb x)) = X ((srcR c r).emb x)
  rw [srcIdx_emb]

/-! ## The element sets -/

theorem src_set (c : Fin (grid0.bound 0)) (r : Fin 48) : (srcM (coordsS c) xW r).view.set = (srcR c r).set := View.set_slice_whole _ _
theorem out_set (c : Fin (grid0.bound 0)) (r : Fin 48) : (outM (coordsS c) oW r).view.set = (outR c r).set := View.set_slice_whole _ _
theorem slot_set (b : Fin 8) : (slotM shW b).view.set = (slotR b).set := by
  simp only [slotM, Memref.view_squeeze, View.set_reshape]; exact View.set_slice_whole _ _

theorem slots_disjoint (b b' : Fin 8) (h : b ≠ b') : Disjoint (slotR b).set (slotR b').set :=
  Ring.lead_disjoint (s := S8x1x1x224x224) (0 : Fin 5) 1 (fun j : Fin 8 => (![j.val, 0, 0, 0, 0] : Fin 5 → Nat)) S1x1x1x224x224.size inb_slot
    (fun j => by simp) rfl b b' h
theorem slots_cover : Finset.univ.biUnion (fun b => (slotR b).set) = Finset.univ :=
  Ring.lead_cover (s := S8x1x1x224x224) (0 : Fin 5) 1 (fun j : Fin 8 => (![j.val, 0, 0, 0, 0] : Fin 5 → Nat)) S1x1x1x224x224.size inb_slot
    (fun j => by simp)
    (fun j a ha => by fin_cases a <;> first | exact absurd rfl ha | rfl) rfl (fun a ha => by fin_cases a <;> first | exact absurd rfl ha | rfl) rfl

theorem mem_outR (c : Fin (grid0.bound 0)) (r : Fin 48) (y : S3x32x224x224.Idx) :
    y ∈ (outR c r).set ↔ 32 * (y 0).val + (y 1).val = 48 * c.val + r.val := by
  have hy1 : (y 1).val < 32 := (y 1).isLt
  have hy2 : (y 2).val < 224 := (y 2).isLt
  have hy3 : (y 3).val < 224 := (y 3).isLt
  rw [Rect.mem_set_unit]
  constructor
  · intro h
    have h0 := h 0; have h1 := h 1
    rw [off2_eq] at h0 h1
    have h0' : (48 * c.val + r.val) / 32 ≤ (y 0).val ∧ (y 0).val < (48 * c.val + r.val) / 32 + 1 := h0
    have h1' : (48 * c.val + r.val) % 32 ≤ (y 1).val ∧ (y 1).val < (48 * c.val + r.val) % 32 + 1 := h1
    omega
  · intro h a
    rw [off2_eq]
    fin_cases a
    · show (48 * c.val + r.val) / 32 ≤ (y 0).val ∧ (y 0).val < (48 * c.val + r.val) / 32 + 1; omega
    · show (48 * c.val + r.val) % 32 ≤ (y 1).val ∧ (y 1).val < (48 * c.val + r.val) % 32 + 1; omega
    · show 0 ≤ (y 2).val ∧ (y 2).val < 0 + 224; omega
    · show 0 ≤ (y 3).val ∧ (y 3).val < 0 + 224; omega

/-- A frame of the result: the SparseCore and the frame's number there. -/
abbrev FrameNo : Type := Fin (grid0.bound 0) × Fin 48

theorem outs_disjoint (p q : FrameNo) (h : p ≠ q) : Disjoint (outR p.1 p.2).set (outR q.1 q.2).set := by
  rw [Finset.disjoint_left]
  intro y hp hq
  rw [mem_outR] at hp hq
  have h1 := p.2.isLt; have h2 := q.2.isLt
  exact h (Prod.ext (Fin.ext (by omega)) (Fin.ext (by omega)))
theorem outs_cover : Finset.univ.biUnion (fun p : FrameNo => (outR p.1 p.2).set) = Finset.univ := by
  ext y
  simp only [Finset.mem_biUnion, Finset.mem_univ, true_and, iff_true]
  have hy0 : (y 0).val < 3 := (y 0).isLt
  have hy1 : (y 1).val < 32 := (y 1).isLt
  refine ⟨(⟨(32 * (y 0).val + (y 1).val) / 48, ?_⟩, ⟨(32 * (y 0).val + (y 1).val) % 48, by omega⟩), ?_⟩
  · show _ < 2; omega
  · rw [mem_outR]
    show _ = 48 * ((32 * (y 0).val + (y 1).val) / 48) + (32 * (y 0).val + (y 1).val) % 48
    omega

/-- The frames of SparseCore `c`. -/
abbrev outC (c : Fin (grid0.bound 0)) : Finset S3x32x224x224.Idx := Finset.univ.biUnion fun r : Fin 48 => (outR c r).set

theorem outC_disjoint (c c' : Fin (grid0.bound 0)) (h : c ≠ c') : Disjoint (outC c) (outC c') := by
  rw [Finset.disjoint_left]
  intro y hp hq
  obtain ⟨r, -, hr⟩ := Finset.mem_biUnion.mp hp
  obtain ⟨r', -, hr'⟩ := Finset.mem_biUnion.mp hq
  exact Finset.disjoint_left.mp (outs_disjoint (c, r) (c', r') fun e => h (congrArg Prod.fst e)) hr hr'
theorem outC_cover : Finset.univ.biUnion outC = Finset.univ := by
  ext y
  simp only [Finset.mem_biUnion, Finset.mem_univ, true_and, iff_true]
  obtain ⟨p, -, hp⟩ := Finset.mem_biUnion.mp (outs_cover ▸ Finset.mem_univ y : y ∈ Finset.univ.biUnion fun p : FrameNo => (outR p.1 p.2).set)
  exact ⟨p.1, p.2, hp⟩

/-! ## The semaphores -/

/-- Slot `b`'s read semaphore and its write semaphore: cells `b` and `8 + b` of the pool. -/
abbrev rdS (b : Fin 8) : DmaSem sig := semM cc0_scratch1 b
abbrev wrS (b : Fin 8) : DmaSem sig := semM cc0_scratch2 b
theorem rdS_val : ∀ b : Fin 8, (rdS b).val = b.val := by decide +kernel
theorem wrS_val : ∀ b : Fin 8, (wrS b).val = 8 + b.val := by decide +kernel

end Cert.Proof.Frames

end
-- ==== Proof.Run.lean ====
/-
  The steps run on one SparseCore's sequencer. Between steps each slot is free, being read into, holding a frame, or being
  written out, and each of its 48 frames of the result is untouched, being written, or done; a step moves one slot and at most one frame from
  one of those states to the next. That the 192 steps take every slot from free to free and every frame to done is then a
  computation on the states alone (`sim`).
-/
module

public import proofs.«01_k».proof.Proof.Values
public import Idealize.ShloMosaic.Lib.ViewIndex

@[expose] public section

noncomputable section

namespace Cert.Proof.Frames

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits shareTok shareDrop)

variable {F : FTy → Type}

/-! ## The states -/

/-- What a slot of the shared buffer is doing. -/
inductive SlotSt where
  | free
  | reading (r : Fin 48)
  | full (r : Fin 48)
  | writing (r : Fin 48)
  deriving DecidableEq

/-- What has become of a frame of the result. -/
inductive OutSt where
  | fresh
  | lent
  | done
  deriving DecidableEq

structure St where
  slot : Fin 8 → SlotSt
  out : Fin 48 → OutSt

/-- One step on the states. -/
def Step.next (s : Step) (σ : St) : Option St :=
  match s with
  | .rd r => if σ.slot (slotOf r) = .free then some ⟨Function.update σ.slot (slotOf r) (.reading r), σ.out⟩ else none
  | .rdw r => if σ.slot (slotOf r) = .reading r then some ⟨Function.update σ.slot (slotOf r) (.full r), σ.out⟩ else none
  | .wr r => if σ.slot (slotOf r) = .full r ∧ σ.out r = .fresh then
      some ⟨Function.update σ.slot (slotOf r) (.writing r), Function.update σ.out r .lent⟩ else none
  | .wrw r => if σ.slot (slotOf r) = .writing r ∧ σ.out r = .lent then
      some ⟨Function.update σ.slot (slotOf r) .free, Function.update σ.out r .done⟩ else none

def sim : List Step → St → Option St
  | [], σ => some σ
  | s :: l, σ => (s.next σ).bind (sim l)

def st₀ : St := ⟨fun _ => .free, fun _ => .fresh⟩

/-- The states after the kernel's steps: every slot free, every frame done. -/
def Finished (σ : St) : Prop := (∀ b, σ.slot b = .free) ∧ ∀ r, σ.out r = .done

instance (σ : St) : Decidable (Finished σ) := by unfold Finished; infer_instance

theorem sim_steps : ∃ σ, sim steps st₀ = some σ ∧ Finished σ := by
  have h : (sim steps st₀).any (fun σ => decide (Finished σ)) = true := by decide +kernel
  revert h
  cases sim steps st₀ with
  | none => intro h; cases h
  | some σ => intro h; exact ⟨σ, rfl, of_decide_eq_true h⟩

/-! ## The resources -/

abbrev UH : Type := URounds (GSem nD τ sig) ℕ
abbrev UU : Type := UH × Counters

local notation "𝕄" => MT nD τ sig (HIx 1) (Elt F) ℕ UU ℕ

abbrev 𝒱₀ : Variants := Variants.none

abbrev xLoc (d : Dev nD) : Loc nD τ sig := (SparseCore.T d).loc main_arg0
abbrev oLoc (d : Dev nD) : Loc nD τ sig := (SparseCore.T d).loc main_v0

/-- The sequencer of SparseCore `c`. -/
abbrev th (d : Dev nD) (c : Fin (grid0.bound 0)) : Thread nD τ := S d ((coordsS c 0).castLE hcore0)
abbrev shLoc (d : Dev nD) (c : Fin (grid0.bound 0)) : Loc nD τ sig := (th d c).loc cc0_scratch0

/-- The counters the transfers' flights are kept by. -/
abbrev EC : UEmb Counters (MT nD τ sig (HIx 1) (Elt F) ℕ UU ℕ) := countersEmb

section Res

variable (X : S3x300x224x224.Idx → Elt F .f32) (d : Dev nD) (c : Fin (grid0.bound 0)) (q : PosShare TreeShare)

/-- Slot `b` at anything. -/
def slotAny (b : Fin 8) : sProp 𝕄 := iprop(∃ f, shLoc d c ↦[(slotR b).set]{fullShare} f)
/-- Slot `b` holding the input's frame for frame `r`. -/
def slotHolds (b : Fin 8) (r : Fin 48) : sProp 𝕄 :=
  iprop(∃ f, ⌜(slotM shW b).view.read (Elt F) f = (srcM (coordsS c) xW r).view.read (Elt F) X⌝ ∗ shLoc d c ↦[(slotR b).set]{fullShare} f)
/-- Slot `b`'s read share of the input: whole, the frame for frame `r` of it, the rest of it. -/
def share (b : Fin 8) : sProp 𝕄 := iprop(xLoc d ↦{shareTok q 8 b} X)
def shareAt (b : Fin 8) (r : Fin 48) : sProp 𝕄 := iprop(xLoc d ↦[(srcR c r).set]{shareTok q 8 b} X)
def shareOff (b : Fin 8) (r : Fin 48) : sProp 𝕄 := iprop(xLoc d ↦[Finset.univ \ (srcR c r).set]{shareTok q 8 b} X)
/-- Frame `r` of the result at anything, and done. -/
def outAny (r : Fin 48) : sProp 𝕄 := iprop(∃ f, oLoc d ↦[(outR c r).set]{fullShare} f)
def outDone (r : Fin 48) : sProp 𝕄 := iprop(oLoc d ↦[(outR c r).set]{fullShare} taken X)

abbrev rd0 (b : Fin 8) : sProp 𝕄 := semVal (th d c, SemLoc.dma (rdS b)) 0
abbrev wr0 (b : Fin 8) : sProp 𝕄 := semVal (th d c, SemLoc.dma (wrS b)) 0

/-- A slot's holdings in each of its states. -/
def slotRes (b : Fin 8) : SlotSt → sProp 𝕄
  | .free => iprop(slotAny d c b ∗ share X d q b ∗ rd0 d c b ∗ wr0 d c b)
  | .reading r => iprop(Flight EC (th d c) (.dma (rdS b)) (none : HIx 1) ((slotM shW b).view.dmaCredit) iprop(slotHolds X d c b r ∗ shareAt X d c q b r)
      ∗ shareOff X d c q b r ∗ wr0 d c b)
  | .full r => iprop(slotHolds X d c b r ∗ share X d q b ∗ rd0 d c b ∗ wr0 d c b)
  | .writing r => iprop(Flight EC (th d c) (.dma (wrS b)) (none : HIx 1) ((outM (coordsS c) oW r).view.dmaCredit) iprop(outDone X d c r ∗ slotAny d c b)
      ∗ share X d q b ∗ rd0 d c b)

/-- A frame's holdings in each of its states. -/
def outRes (r : Fin 48) : OutSt → sProp 𝕄
  | .fresh => outAny d c r
  | .lent => iprop(emp)
  | .done => outDone X d c r

/-- Everything, in a state. -/
def res (σ : St) : sProp 𝕄 :=
  iprop((bigSep Finset.univ fun b => slotRes X d c q b (σ.slot b)) ∗ bigSep Finset.univ fun r => outRes X d c r (σ.out r))

/-- What the sequencer owes, its waits recorded at the kernel's index. -/
def owed (O : CellTallies nD τ sig (HIx 1)) (W : Waits sig (HIx 1)) : sProp 𝕄 :=
  iprop(∃ W', ⌜∀ p ∈ W', p ∈ W ∨ p.2 = none⌝ ∗ owes (th d c) O W')

end Res

/-- One member of a family out, and back in any state. -/
theorem take {n : ℕ} {A : Type} (Φ : Fin n → A → sProp 𝕄) (σ : Fin n → A) (b : Fin n) {a : A} (h : σ b = a) :
    (bigSep Finset.univ fun b => Φ b (σ b)) ⊢ iprop(Φ b a ∗ ∀ v, Φ b v -∗ bigSep Finset.univ fun b' => Φ b' (Function.update σ b v b')) := by
  subst h
  rw [SparseCore.bigSep_erase' (Finset.mem_univ b)]
  iintro ⟨Hb, Hrest⟩
  isplitl [Hb]; · iexact Hb
  iintro %v Hv
  rw [SparseCore.bigSep_erase' (Finset.mem_univ b) (Φ := fun b' => Φ b' (Function.update σ b v b')), Function.update_self,
    show (bigSep (Finset.univ.erase b) fun b' => Φ b' (Function.update σ b v b')) = bigSep (Finset.univ.erase b) fun b' => Φ b' (σ b') from
      bigSep_congr fun b' hb' => by rw [Function.update_of_ne (Finset.ne_of_mem_erase hb')]]
  isplitl [Hv] <;> iassumption

variable [FloatOps F]

section Steps

variable (X : S3x300x224x224.Idx → Elt F .f32) (d : Dev nD) (c : Fin (grid0.bound 0)) (q : PosShare TreeShare)
variable (k : Prog (TpuEff nD τ sig (Elt F) Λ₀ (.scScalar ((coordsS c 0).castLE hcore0))) PUnit.{1}) (Q : PUnit.{1} → sProp (MT nD τ sig (HIx 1) (Elt F) ℕ UU ℕ))

local notation "wpk" => wp Idealize.ShloMosaic.frame (wpE (defs₀ (F := F)) 𝒱₀ (th d c) none) Set.univ

theorem share_eq (b : Fin 8) (r : Fin 48) : share X d q b ⊣⊢ (iprop(shareAt X d c q b r ∗ shareOff X d c q b r) : sProp 𝕄) :=
  pointsTo_split_subset (Finset.subset_univ _)

/-- The source of a read and the end of a write, as the transfers name them. -/
theorem src_pts (r : Fin 48) (q' : PosShare TreeShare) (f : Buf (Elt F) (xLoc d)) :
    ((srcM (coordsS c) xW r).view.loc (th d c) ↦[(srcM (coordsS c) xW r).view.set]{q'} f : sProp 𝕄) = xLoc d ↦[(srcR c r).set]{q'} f := by
  rw [src_set]
theorem slot_pts (b : Fin 8) (q' : PosShare TreeShare) (f : Buf (Elt F) (shLoc d c)) :
    ((slotM shW b).view.loc (th d c) ↦[(slotM shW b).view.set]{q'} f : sProp 𝕄) = shLoc d c ↦[(slotR b).set]{q'} f := by
  rw [slot_set]

/-- Start reading. -/
theorem step_rd (r : Fin 48) :
    slotRes X d c q (slotOf r) .free ⊢ iprop((slotRes X d c q (slotOf r) (.reading r) -∗ wpk k Q)
      -∗ wpk (Step.exec (coordsS c) xW oW shW cc0_scratch1 cc0_scratch2 (.rd r) k) Q) := by
  simp only [slotRes, Step.exec]
  iintro ⟨Hs, Hx, Hr, Hw⟩ Hk
  unfold slotAny
  icases Hs with ⟨%f, Hs⟩
  ihave Hx' := (share_eq X d c q (slotOf r) r).1 $$ Hx
  icases Hx' with ⟨Hx, Hoff⟩
  unfold shareAt
  iapply (Transfers.wp_dmaLocal EC 𝒱₀ (th d c) none (src := srcM (coordsS c) xW r) (via := .same) (dst := slotM shW (slotOf r))
    (sm := .dma (rdS (slotOf r))) (q := shareTok q 8 (slotOf r)) (fs := X) (Sd := (slotR (slotOf r)).set) (fd := f)
    (none : HIx 1) _ rfl (View.amount_pos _ _ (show 0 < S1x1x224x224.numel by decide)) (slot_set _).le) $$ [Hs Hx Hr]
  · isplitl [Hx]; · iapply (Entails.of_eq (src_pts d c r _ _).symm); iexact Hx
    isplitl [Hs]; · iexact Hs
    iexact Hr
  iintro HF
  iapply Hk
  isplitl [HF]
  · iapply (Transfers.Flight_mono EC (th d c) ?_) $$ HF
    iintro ⟨Hs, Hx⟩
    isplitl [Hs]
    · unfold slotHolds; iexists _
      isplitr; · ipureintro; exact View.read_write_univ f _
      iexact Hs
    · iapply (Entails.of_eq (src_pts d c r _ _)); iexact Hx
  isplitl [Hoff] <;> iassumption

theorem owed_elim (O : CellTallies nD τ sig (HIx 1)) (W : Waits sig (HIx 1)) :
    (owed d c O W : sProp 𝕄) ⊢ iprop(∃ W', ⌜∀ p ∈ W', p ∈ W ∨ p.2 = none⌝ ∗ owes (th d c) O W') := .rfl

/-- A wait at the kernel's index stays within what may be recorded. -/
theorem owed_insert (O : CellTallies nD τ sig (HIx 1)) (W : Waits sig (HIx 1)) {W' : Waits sig (HIx 1)} (sm : SemLoc sig)
    (hW' : ∀ p ∈ W', p ∈ W ∨ p.2 = none) :
    (owes (th d c) O (insert (sm, (none : HIx 1)) W') : sProp 𝕄) ⊢ owed d c O W := by
  unfold owed
  iintro HO
  iexists (insert (sm, (none : HIx 1)) W')
  isplitr
  · ipureintro; intro p hp
    rcases Finset.mem_insert.mp hp with rfl | hp
    · exact .inr rfl
    · exact hW' p hp
  iexact HO

/-- Wait for a read. -/
theorem step_rdw (r : Fin 48) (O : CellTallies nD τ sig (HIx 1)) (W : Waits sig (HIx 1)) :
    iprop(MayWaits (th d c) (none : HIx 1) O ∗ slotRes X d c q (slotOf r) (.reading r) ∗ owed d c O W)
      ⊢ iprop((iprop(slotRes X d c q (slotOf r) (.full r) ∗ owed d c O W) -∗ wpk k Q)
      -∗ wpk (Step.exec (coordsS c) xW oW shW cc0_scratch1 cc0_scratch2 (.rdw r) k) Q) := by
  simp only [slotRes, Step.exec]
  iintro ⟨Hmw, ⟨HF, Hoff, Hw⟩, HO⟩ Hk
  ihave HO := (owed_elim d c O W) $$ HO
  icases HO with ⟨%W', %hW', HO⟩
  ihave Hm := (MayWaits.elim (.dma (rdS (slotOf r)))) $$ Hmw
  iapply (Transfers.wp_waitLocalO EC 𝒱₀ (th d c) none (none : HIx 1) rfl) $$ [HF HO Hm]
  · isplitl [HF]; · iexact HF
    isplitl [HO] <;> iassumption
  iintro ⟨⟨Hs, Hx⟩, Hr, HO⟩
  iapply Hk
  isplitr [HO]
  · isplitl [Hs]; · iexact Hs
    isplitl [Hx Hoff]
    · iapply (share_eq X d c q (slotOf r) r).2
      isplitl [Hx] <;> iassumption
    isplitl [Hr] <;> iassumption
  iapply (owed_insert d c O W _ hW') $$ HO

/-- What a write of a slot leaves in the result's frame. -/
theorem out_written (r : Fin 48) (b : Fin 8) (g : Buf (Elt F) (oLoc d)) (f : Buf (Elt F) (shLoc d c))
    (h : (slotM shW b).view.read (Elt F) f = (srcM (coordsS c) xW r).view.read (Elt F) X) :
    ∀ y ∈ (outR c r).set, (outM (coordsS c) oW r).view.write (Elt F) g ((slotM shW b).view.read (Elt F) f) Finset.univ y = taken X y := by
  intro y hy
  rw [← out_set] at hy
  obtain ⟨x, -, rfl⟩ := Finset.mem_map.mp hy
  refine View.eq_of_read_eq (v := (outM (coordsS c) oW r).view) ?_
  rw [View.read_write_univ, h, read_taken]

/-- Start writing. -/
theorem step_wr (r : Fin 48) :
    iprop(slotRes X d c q (slotOf r) (.full r) ∗ outRes X d c r .fresh) ⊢ iprop((iprop(slotRes X d c q (slotOf r) (.writing r) ∗ outRes X d c r .lent) -∗ wpk k Q)
      -∗ wpk (Step.exec (coordsS c) xW oW shW cc0_scratch1 cc0_scratch2 (.wr r) k) Q) := by
  simp only [slotRes, outRes, Step.exec]
  unfold slotHolds outAny
  iintro ⟨⟨⟨%f, %hf, Hs⟩, Hx, Hr, Hw⟩, %g, Ho⟩ Hk
  iapply (Transfers.wp_dmaLocal EC 𝒱₀ (th d c) none (src := slotM shW (slotOf r)) (via := .same) (dst := outM (coordsS c) oW r)
    (sm := .dma (wrS (slotOf r))) (q := fullShare) (fs := f) (Sd := (outR c r).set) (fd := g)
    (none : HIx 1) _ rfl (View.amount_pos _ _ (show 0 < S1x1x224x224.numel by decide)) (out_set _ _).le) $$ [Hs Ho Hw]
  · isplitl [Hs]; · iapply (Entails.of_eq (slot_pts d c _ _ _).symm); iexact Hs
    isplitl [Ho]; · iexact Ho
    iexact Hw
  iintro HF
  iapply Hk
  isplitl
  · isplitl [HF]
    · iapply (Transfers.Flight_mono EC (th d c) ?_) $$ HF
      iintro ⟨Ho, Hs⟩
      isplitl [Ho]
      · unfold outDone
        iapply (Entails.of_eq (pointsTo_congr (out_written X d c r (slotOf r) g f hf))); iexact Ho
      · unfold slotAny; iexists _
        iapply (Entails.of_eq (slot_pts d c _ _ _)); iexact Hs
    isplitl [Hx] <;> iassumption
  · iempintro

/-- Wait for a write. -/
theorem step_wrw (r : Fin 48) (O : CellTallies nD τ sig (HIx 1)) (W : Waits sig (HIx 1)) :
    iprop(MayWaits (th d c) (none : HIx 1) O ∗ slotRes X d c q (slotOf r) (.writing r) ∗ outRes X d c r .lent ∗ owed d c O W)
      ⊢ iprop((iprop(slotRes X d c q (slotOf r) .free ∗ outRes X d c r .done ∗ owed d c O W) -∗ wpk k Q)
      -∗ wpk (Step.exec (coordsS c) xW oW shW cc0_scratch1 cc0_scratch2 (.wrw r) k) Q) := by
  simp only [slotRes, outRes, Step.exec]
  iintro ⟨Hmw, ⟨HF, Hx, Hr⟩, -, HO⟩ Hk
  ihave HO := (owed_elim d c O W) $$ HO
  icases HO with ⟨%W', %hW', HO⟩
  ihave Hm := (MayWaits.elim (.dma (wrS (slotOf r)))) $$ Hmw
  iapply (Transfers.wp_waitLocalO EC 𝒱₀ (th d c) none (none : HIx 1) rfl) $$ [HF HO Hm]
  · isplitl [HF]; · iexact HF
    isplitl [HO] <;> iassumption
  iintro ⟨⟨Ho, Hs⟩, Hw, HO⟩
  iapply Hk
  isplitl [Hs Hx Hr Hw]
  · isplitl [Hs]; · iexact Hs
    isplitl [Hx]; · iexact Hx
    isplitl [Hr] <;> iassumption
  isplitl [Ho]; · iexact Ho
  iapply (owed_insert d c O W _ hW') $$ HO

end Steps

section Whole

variable (X : S3x300x224x224.Idx → Elt F .f32) (d : Dev nD) (c : Fin (grid0.bound 0)) (q : PosShare TreeShare)

theorem res_eq (σ : St) : (res X d c q σ : sProp 𝕄)
    ⊣⊢ iprop((bigSep Finset.univ fun b => slotRes X d c q b (σ.slot b)) ∗ bigSep Finset.univ fun r => outRes X d c r (σ.out r)) := .rfl

/-- A list of steps, from a state to the state it leads to. -/
theorem run_wp (O : CellTallies nD τ sig (HIx 1)) (W : Waits sig (HIx 1)) (l : List Step) :
    ∀ σ σ' : St, sim l σ = some σ' →
      (iprop(MayWaits (th d c) (none : HIx 1) O ∗ res X d c q σ ∗ owed d c O W) : sProp 𝕄)
        ⊢ wp frame (wpE (defs₀ (F := F)) 𝒱₀ (th d c) none) Set.univ (run (coordsS c) xW oW shW cc0_scratch1 cc0_scratch2 l)
          fun _ => iprop(res X d c q σ' ∗ owed d c O W) := by
  induction l with
  | nil =>
    intro σ σ' h
    obtain rfl : σ = σ' := Option.some.inj h
    unfold run
    rw [wp_ret]
    iintro ⟨-, Hres, HO⟩
    imodintro
    isplitl [Hres] <;> iassumption
  | cons s l ih =>
    intro σ σ' h
    obtain ⟨τ', hn, hl⟩ := Option.bind_eq_some_iff.mp h
    have ih := ih τ' σ' hl
    unfold run
    iintro ⟨#Hmw, Hres, HO⟩
    ihave H := (res_eq X d c q σ).1 $$ Hres
    icases H with ⟨HS, HQ⟩
    cases s with
    | rd r =>
      simp only [Step.next] at hn
      split at hn
      case isFalse => cases hn
      case isTrue hf =>
      cases hn
      ihave H := (take (slotRes X d c q) σ.slot (slotOf r) hf) $$ HS
      icases H with ⟨Hs, HSb⟩
      iapply (step_rd X d c q _ _ r) $$ Hs
      iintro Hs
      iapply ih
      isplitr; · iexact Hmw
      isplitr [HO]
      · iapply (res_eq X d c q _).2
        isplitl [Hs HSb]
        · iapply HSb; iexact Hs
        · iexact HQ
      iexact HO
    | rdw r =>
      simp only [Step.next] at hn
      split at hn
      case isFalse => cases hn
      case isTrue hf =>
      cases hn
      ihave H := (take (slotRes X d c q) σ.slot (slotOf r) hf) $$ HS
      icases H with ⟨Hs, HSb⟩
      iapply (step_rdw X d c q _ _ r O W) $$ [Hs HO]
      · isplitr; · iexact Hmw
        isplitl [Hs]; · iexact Hs
        iexact HO
      iintro ⟨Hs, HO⟩
      iapply ih
      isplitr; · iexact Hmw
      isplitr [HO]
      · iapply (res_eq X d c q _).2
        isplitl [Hs HSb]
        · iapply HSb; iexact Hs
        · iexact HQ
      iexact HO
    | wr r =>
      simp only [Step.next] at hn
      split at hn
      case isFalse => cases hn
      case isTrue hf =>
      cases hn
      ihave H := (take (slotRes X d c q) σ.slot (slotOf r) hf.1) $$ HS
      icases H with ⟨Hs, HSb⟩
      ihave H := (take (outRes X d c) σ.out r hf.2) $$ HQ
      icases H with ⟨Hq, HQb⟩
      iapply (step_wr X d c q _ _ r) $$ [Hs Hq]
      · isplitl [Hs] <;> iassumption
      iintro ⟨Hs, Hq⟩
      iapply ih
      isplitr; · iexact Hmw
      isplitr [HO]
      · iapply (res_eq X d c q _).2
        isplitl [Hs HSb]
        · iapply HSb; iexact Hs
        · iapply HQb; iexact Hq
      iexact HO
    | wrw r =>
      simp only [Step.next] at hn
      split at hn
      case isFalse => cases hn
      case isTrue hf =>
      cases hn
      ihave H := (take (slotRes X d c q) σ.slot (slotOf r) hf.1) $$ HS
      icases H with ⟨Hs, HSb⟩
      ihave H := (take (outRes X d c) σ.out r hf.2) $$ HQ
      icases H with ⟨Hq, HQb⟩
      iapply (step_wrw X d c q _ _ r O W) $$ [Hs Hq HO]
      · isplitr; · iexact Hmw
        isplitl [Hs]; · iexact Hs
        isplitl [Hq]; · iexact Hq
        iexact HO
      iintro ⟨Hs, Hq, HO⟩
      iapply ih
      isplitr; · iexact Hmw
      isplitr [HO]
      · iapply (res_eq X d c q _).2
        isplitl [Hs HSb]
        · iapply HSb; iexact Hs
        · iapply HQb; iexact Hq
      iexact HO

end Whole

end Cert.Proof.Frames

end
-- ==== Proof.Launch.lean ====
/-
  The kernel's launch. Each SparseCore's sequencer takes half a share of the input, its own 48 frames of the result at
  anything, its shared scratch and its sixteen semaphores, and hands them back with those frames taken from the input; the
  TensorCore deals the two halves out and joins them. So the whole program ends with the input unchanged, the result the
  frames taken, and every semaphore at zero.
-/
module

public import proofs.«01_k».proof.Proof.Run

@[expose] public section

noncomputable section

namespace Cert.Proof.Frames

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits shareTok shareDrop)

variable {F : FTy → Type}

local notation "𝕄" => MT nD τ sig (HIx 1) (Elt F) ℕ UU ℕ

/-! ## One sequencer's holdings, whole and apart -/

section Holdings

variable (X : S3x300x224x224.Idx → Elt F .f32) (d : Dev nD) (c : Fin (grid0.bound 0)) (q : PosShare TreeShare)

/-- The sixteen semaphores as cells of the sequencer. -/
abbrev rcell (b : Fin 8) : GSem nD τ sig := (th d c, .dma (rdS b))
abbrev wcell (b : Fin 8) : GSem nD τ sig := (th d c, .dma (wrS b))
abbrev cells : Finset (GSem nD τ sig) := Finset.univ.image (rcell d c) ∪ Finset.univ.image (wcell d c)

theorem dma_scoped : ∀ s : DmaSem sig, (SemLoc.dma s : SemLoc sig).isScoped .scScalar = true := by decide

theorem cells_own : cells d c ⊆ ownCells (th d c) :=
  Finset.union_subset (Finset.image_subset_iff.mpr fun _ _ => mem_ownCells.mpr ⟨rfl, dma_scoped _⟩)
    (Finset.image_subset_iff.mpr fun _ _ => mem_ownCells.mpr ⟨rfl, dma_scoped _⟩)

theorem dma_inj {s s' : DmaSem sig} {t : Thread nD τ} (h : ((t, .dma s) : GSem nD τ sig) = (t, .dma s')) : s.val = s'.val := by
  have := congrArg (fun g : GSem nD τ sig => g.2) h
  exact congrArg Fin.val (SemLoc.dma.inj this)

theorem cells_disjoint : Disjoint (Finset.univ.image (rcell d c)) (Finset.univ.image (wcell d c)) := by
  rw [Finset.disjoint_left]
  intro g hr hw
  obtain ⟨b, -, rfl⟩ := Finset.mem_image.mp hr
  obtain ⟨b', -, h⟩ := Finset.mem_image.mp hw
  have := dma_inj h
  rw [rdS_val, wrS_val] at this
  have := b.isLt; omega

/-- The sequencer's semaphores: the sixteen, and any others. -/
theorem sems_eq : (ownSems0 (th d c) : sProp 𝕄)
    = iprop(((bigSep Finset.univ fun b => rd0 d c b) ∗ bigSep Finset.univ fun b => wr0 d c b) ∗ bigSep (ownCells (th d c) \ cells d c) fun g => semVal g 0) := by
  unfold SparseCore.Cfg.ownSems0
  rw [SparseCore.bigSep_sdiff_split' (cells_own d c), SparseCore.bigSep_union' (cells_disjoint d c),
    SparseCore.bigSep_image_of_injOn (fun a _ b _ h => Fin.ext (by have := dma_inj h; rwa [rdS_val, rdS_val] at this)),
    SparseCore.bigSep_image_of_injOn (fun a _ b _ h => Fin.ext (by have := dma_inj h; rw [wrS_val, wrS_val] at this; omega))]

/-- The sequencer's buffers: the scratch, and any others. -/
theorem bufs_eq : (ownBufs (th d c) : sProp 𝕄)
    = iprop((∃ f, shLoc d c ↦{fullShare} f)
        ∗ bigSep ((ownRefs (τ := τ) (.scScalar ((coordsS c 0).castLE hcore0))).erase ((Proc.scScalar ((coordsS c 0).castLE hcore0)).devRef cc0_scratch0))
            fun b => iprop(∃ f, ((d, b) : Loc nD τ sig) ↦{fullShare} f)) := by
  unfold SparseCore.Cfg.ownBufs
  exact SparseCore.bigSep_erase' ((mem_ownRefs (p := Proc.scScalar ((coordsS c 0).castLE hcore0))
    (b := (Proc.scScalar ((coordsS c 0).castLE hcore0)).devRef cc0_scratch0)).mpr rfl)

theorem slots_any (f : Buf (Elt F) (shLoc d c)) :
    (bigSep Finset.univ fun b => shLoc d c ↦[(slotR b).set]{fullShare} f : sProp 𝕄) ⊢ bigSep Finset.univ fun b => slotAny d c b :=
  bigSep_mono fun b _ => (show (shLoc d c ↦[(slotR b).set]{fullShare} f : sProp 𝕄) ⊢ slotAny d c b from by
    unfold slotAny; iintro H; iexists f; iexact H)

/-- The scratch whole is its eight slots. -/
theorem scratch_split : (iprop(∃ f, shLoc d c ↦{fullShare} f) : sProp 𝕄) ⊢ bigSep Finset.univ fun b => slotAny d c b := by
  iintro ⟨%f, H⟩
  iapply (slots_any d c f)
  iapply (Entails.of_eq (Ring.pointsTo_blocks (ℓ := shLoc d c) (fun b => (slotR b).set) slots_disjoint slots_cover f)); iexact H
theorem scratch_join [Nonempty (Elt F .f32)] : (bigSep Finset.univ fun b => (slotAny d c b : sProp 𝕄)) ⊢ iprop(∃ f, shLoc d c ↦{fullShare} f) :=
  Ring.pointsTo_blocks_join_exists (ℓ := shLoc d c) (fun b => (slotR b).set) slots_disjoint slots_cover (fun _ => Classical.arbitrary _)

/-- The SparseCore's part of the result is its 48 frames. -/
theorem part_eq (f : Buf (Elt F) (oLoc d)) :
    (oLoc d ↦[outC c]{fullShare} f : sProp 𝕄) = bigSep Finset.univ fun r => oLoc d ↦[(outR c r).set]{fullShare} f :=
  pointsTo_biUnion (ℓ := oLoc d) Finset.univ (fun r => (outR c r).set) fun r _ r' _ h => outs_disjoint (c, r) (c, r') fun e => h (congrArg Prod.snd e)

theorem parts_any (f : Buf (Elt F) (oLoc d)) :
    (bigSep Finset.univ fun r => oLoc d ↦[(outR c r).set]{fullShare} f : sProp 𝕄) ⊢ bigSep Finset.univ fun r => outAny d c r :=
  bigSep_mono fun r _ => (show (oLoc d ↦[(outR c r).set]{fullShare} f : sProp 𝕄) ⊢ outAny d c r from by
    unfold outAny; iintro H; iexists f; iexact H)

/-- Everything, before the first step. -/
theorem res_intro :
    iprop((bigSep Finset.univ fun b => slotAny d c b) ∗ (bigSep Finset.univ fun b => share X d q b) ∗ (bigSep Finset.univ fun b => rd0 d c b)
        ∗ (bigSep Finset.univ fun b => wr0 d c b) ∗ bigSep Finset.univ fun r => outAny d c r)
      ⊢ (res X d c q st₀ : sProp 𝕄) := by
  iintro ⟨Hs, Hx, Hr, Hw, Ho⟩
  iapply (show iprop((bigSep Finset.univ fun b => iprop(slotAny d c b ∗ share X d q b ∗ rd0 d c b ∗ wr0 d c b)) ∗ bigSep Finset.univ fun r => outAny d c r)
    ⊢ (res X d c q st₀ : sProp 𝕄) from .rfl)
  isplitr [Ho]
  · rw [bigSep_sep', bigSep_sep', bigSep_sep']
    isplitl [Hs]; · iexact Hs
    isplitl [Hx]; · iexact Hx
    isplitl [Hr] <;> iassumption
  iexact Ho

/-- Everything, after the last. -/
theorem res_elim (σ : St) (h : Finished σ) :
    (res X d c q σ : sProp 𝕄)
      ⊢ iprop((bigSep Finset.univ fun b => slotAny d c b) ∗ (bigSep Finset.univ fun b => share X d q b) ∗ (bigSep Finset.univ fun b => rd0 d c b)
        ∗ (bigSep Finset.univ fun b => wr0 d c b) ∗ bigSep Finset.univ fun r => outDone X d c r) := by
  obtain rfl : σ = ⟨fun _ => .free, fun _ => .done⟩ := by
    cases σ; exact congrArg₂ St.mk (funext h.1) (funext h.2)
  refine (show (res X d c q ⟨fun _ => .free, fun _ => .done⟩ : sProp 𝕄) ⊢
    iprop((bigSep Finset.univ fun b => iprop(slotAny d c b ∗ share X d q b ∗ rd0 d c b ∗ wr0 d c b)) ∗ bigSep Finset.univ fun r => outDone X d c r) from .rfl).trans ?_
  rw [bigSep_sep', bigSep_sep', bigSep_sep']
  iintro ⟨⟨Hs, Hx, Hr, Hw⟩, Ho⟩
  isplitl [Hs]; · iexact Hs
  isplitl [Hx]; · iexact Hx
  isplitl [Hr]; · iexact Hr
  isplitl [Hw] <;> iassumption

end Holdings

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' element, beside the transfers' counters. -/
abbrev EH : Emb UH (MT nD τ sig (HIx 1) (Elt F) ℕ UU ℕ) := embL

variable (m : (ℓ : Loc nD τ sig) → Buf (Elt F) ℓ) (ρ : Dev nD → PrngReg)

variable [FloatOps F]

/-- The two SparseCores. -/
abbrev c₀ : Fin (grid0.bound 0) := ⟨0, by decide⟩
abbrev c₁ : Fin (grid0.bound 0) := ⟨1, by decide⟩

/-- SparseCore `c`'s half of the input. -/
def half (c : Fin (grid0.bound 0)) : PosShare TreeShare := if c.val = 0 then fullShare.left else fullShare.right

/-- What a sequencer is handed: half a share of the input, and its frames of the result at anything; and what it returns. -/
abbrev given (d : Dev nD) (c : Fin (grid0.bound 0)) : sProp 𝕄 := iprop((xLoc d ↦{half c} m (xLoc d)) ∗ ∃ f, oLoc d ↦[outC c]{fullShare} f)
abbrev back (d : Dev nD) (c : Fin (grid0.bound 0)) : sProp 𝕄 := iprop((xLoc d ↦{half c} m (xLoc d)) ∗ oLoc d ↦[outC c]{fullShare} taken (m (xLoc d)))

def P : (K (F := F)).Pay (nD := nD) (Val := Elt F) (Name := ℕ) (U := UU) where
  st := fun | 0 => fun d c => given m d c
  dn := fun | 0 => fun d c => back m d c
  go := fun _ _ _ _ => iprop(emp)
  td := fun _ _ _ _ => iprop(emp)
  x := fun _ _ => iprop(emp)

instance P_storable : (P (F := F) m).IsStorable where
  st q d c := match q with | 0 => by unfold P; infer_instance
  dn q d c := match q with | 0 => by unfold P; infer_instance
  go _ _ _ _ := by unfold P; infer_instance
  td _ _ _ _ := by unfold P; infer_instance

/-- A sequencer's run. -/
theorem body [Nonempty (Elt F .f32)] (d : Dev nD) (c : Fin (grid0.bound 0)) (O : CellTallies nD τ sig (HIx 1)) (W : Waits sig (HIx 1)) (hO : ∀ g, O g none = 0) :
    iprop(levAts (K (F := F)).L (K (F := F)).lev ∗ emp ∗ given m d c ∗ scopedBufs (th d c) ∗ scopedSems0 (th d c) ∗ owes (th d c) O W)
      ⊢ wp frame (wpE (defs₀ (F := F)) 𝒱₀ (th d c) none) Set.univ
          (cc0_k (coordsS c) xW (Memref.isWhole_whole _) oW (Memref.isWhole_whole _) shW (Memref.isWhole_whole _) cc0_scratch1 cc0_scratch2)
          fun _ => iprop(back m d c ∗ scopedBufs (th d c) ∗ scopedSems0 (th d c)
            ∗ ∃ W', ⌜∀ p ∈ W', p ∈ W ∨ p.2 = none ∨ p.2 = some (0 : Fin 1)⌝ ∗ owes (th d c) O W') := by
  rw [(K (F := F)).scopedBufs_S facts d _, SparseCore.Cfg.scopedSems0_S (Val := Elt F) d _, sems_eq, bufs_eq]
  obtain ⟨σ, hσ, hfin⟩ := sim_steps
  rw [cc0_k_eq]
  iintro ⟨#Hlv, -, ⟨Hx, %fo, Ho⟩, ⟨⟨Hsh, Hbufs⟩, Htiles⟩, ⟨⟨⟨Hr, Hw⟩, Hsems⟩, HtileSems⟩, HO⟩
  ihave Hmw := ((K (F := F)).mayWaits_none (thr := th d c) hO) $$ Hlv
  ihave Hs := (scratch_split d c) $$ Hsh
  ihave Hx := (Transfers.pointsTo_toks_split (half c) 8) $$ Hx
  icases Hx with ⟨Hdrop, Hx⟩
  ihave Ho := (Entails.of_eq (part_eq d c fo)) $$ Ho
  ihave Ho := (parts_any d c fo) $$ Ho
  iapply (wp_wand_r Idealize.ShloMosaic.frame (wpE (defs₀ (F := F)) 𝒱₀ (th d c) none) Set.univ)
  isplitl [Hs Hx Hr Hw Ho HO]
  · iapply (run_wp (m (xLoc d)) d c (half c) O W steps st₀ σ hσ)
    isplitl [Hmw]; · iexact Hmw
    isplitr [HO]
    · iapply (res_intro (m (xLoc d)) d c (half c))
      isplitl [Hs]; · iexact Hs
      isplitl [Hx]; · iexact Hx
      isplitl [Hr]; · iexact Hr
      isplitl [Hw] <;> iassumption
    · unfold owed; iexists W; isplitr
      · ipureintro; exact fun p hp => .inl hp
      iexact HO
  iintro %_ ⟨Hres, HO⟩
  ihave H := (res_elim (m (xLoc d)) d c (half c) σ hfin) $$ Hres
  icases H with ⟨Hs, Hx, Hr, Hw, Ho⟩
  isplitl [Hdrop Hx Ho]
  · isplitl [Hdrop Hx]
    · iapply (Transfers.pointsTo_toks_join (half c) 8)
      isplitl [Hdrop]; · iexact Hdrop
      iexact Hx
    iapply (Entails.of_eq (part_eq d c (taken (m (xLoc d)))).symm); iexact Ho
  isplitl [Hs Hbufs Htiles]
  · isplitl [Hs Hbufs]
    · isplitl [Hs]; · iapply (scratch_join d c); iexact Hs
      iexact Hbufs
    iexact Htiles
  isplitl [Hr Hw Hsems HtileSems]
  · isplitl [Hr Hw Hsems]
    · isplitl [Hr Hw]; · isplitl [Hr] <;> iassumption
      iexact Hsems
    iexact HtileSems
  ihave HO := (owed_elim d c O W) $$ HO
  icases HO with ⟨%W', %hW', HO⟩
  iexists W'; isplitr
  · ipureintro; exact fun p hp => (hW' p hp).imp_right Or.inl
  iexact HO

theorem defs₀_scalar (c : Fin τ.nSC) :
    defs₀ (F := F) (.scScalar c) 0 ()
      = SparseCore.onCore hcore0 (fun c => cc0_k (coordsS c) xW (Memref.isWhole_whole _) oW (Memref.isWhole_whole _)
          shW (Memref.isWhole_whole _) cc0_scratch1 cc0_scratch2) ⟨⟩ c := rfl

seal cc0_k in
theorem scalarObl [Nonempty (Elt F .f32)] : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m d ⟨_, hc⟩ O W hO

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The result whole is the two SparseCores' parts. -/
theorem parts_eq (d : Dev nD) (f : Buf (Elt F) (oLoc d)) :
    (oLoc d ↦{fullShare} f : sProp 𝕄) = iprop((oLoc d ↦[outC c₀]{fullShare} f) ∗ oLoc d ↦[outC c₁]{fullShare} f) :=
  (Ring.pointsTo_blocks (ℓ := oLoc d) outC outC_disjoint outC_cover f).trans (BI.bigSep_fin_two (fun c => oLoc d ↦[outC c]{fullShare} f))

theorem halves (d : Dev nD) (f : Buf (Elt F) (xLoc d)) :
    (xLoc d ↦{fullShare} f : sProp 𝕄) ⊣⊢ iprop((xLoc d ↦{half c₀} f) ∗ xLoc d ↦{half c₁} f) :=
  pointsTo_share (PosShare.mem_left_op_right _)

theorem st0_eq (d : Dev nD) : (bigSep Finset.univ fun c : Fin ((K (F := F)).nCore 0) => (P m).st 0 d c) = iprop(given m d c₀ ∗ given m d c₁) :=
  BI.bigSep_fin_two (fun c => given m d c)
theorem dn0_eq (d : Dev nD) : (bigSep Finset.univ fun c : Fin ((K (F := F)).nCore 0) => (P m).dn 0 d c) = iprop(back m d c₀ ∗ back m d c₁) :=
  BI.bigSep_fin_two (fun c => back m d c)

/-- What @main leaves: the input as it was, the result the frames taken of it. -/
abbrev FIN (d : Dev nD) : sProp 𝕄 := iprop((xLoc d ↦{fullShare} m (xLoc d)) ∗ oLoc d ↦{fullShare} taken (m (xLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  ihave Hx := (halves d _).1 $$ Hx
  icases Hx with ⟨Hx0, Hx1⟩
  ihave Ho := (Entails.of_eq (parts_eq d _)) $$ Ho
  icases Ho with ⟨Ho0, Ho1⟩
  iapply ((K (F := F)).wp_run (D (F := F)) 𝒱 (EH := EH) (P := P m) κ d 0) $$ [Hst Hx0 Hx1 Ho0 Ho1 Hb Hts]
  isplitr; · iexact Hctx
  isplitl [Hst]; · iexact Hst
  isplitl [Hx0 Hx1 Ho0 Ho1]
  · rw [st0_eq]
    isplitl [Hx0 Ho0]
    · isplitl [Hx0]; · iexact Hx0
      iexists _; iexact Ho0
    · isplitl [Hx1]; · iexact Hx1
      iexists _; iexact Ho1
  iintro ⟨Hst, Hdn⟩
  ihave Hdn' := (Entails.of_eq (dn0_eq m d)) $$ Hdn
  icases Hdn' with ⟨⟨Hx0, Ho0⟩, Hx1, Ho1⟩
  imodintro
  isplitl [Hst]; · iexact Hst
  isplitr [Hb Hts]
  · isplitl [Hx0 Hx1]
    · iapply (halves d _).2
      isplitl [Hx0] <;> iassumption
    · iapply (Entails.of_eq (parts_eq d _).symm)
      isplitl [Ho0] <;> iassumption
  isplitl [Hb] <;> iassumption

def fq (d : Dev nD) (s' : Phys nD τ sig (Elt F)) : Prop := s'.mem.mem (xLoc d) = m (xLoc d) ∧ s'.mem.mem (oLoc d) = taken (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := taken (m (xLoc d)))) $$ [HSI Ho]
  · isplitl [HSI] <;> iassumption
  icases H with %ho
  ipureintro; exact ⟨funext fun i => hx i (Finset.mem_univ i), funext fun i => ho i (Finset.mem_univ i)⟩

/-! ## The program's run -/

def QC : PUnit × MemSt nD τ sig (Elt F) → Prop := fun r =>
  (∀ c : Dev nD, r.2.mem (xLoc c) = m (xLoc c) ∧ r.2.mem (oLoc c) = taken (m (xLoc c))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Frames

end
-- ==== Proof.Ref.lean ====
/-
  The reference's result on extended reals: the 32 positions it computes as a linear ramp from 0 to 299, rounded toward
  zero, are the integer quotients 299 · i / 31; each is in range, so the gather's guard never fires and the result is
  the input taken at those positions.
-/
module

public import proofs.«01_k».proof.Proof.Gen.ReferenceIdeal.Run
public import proofs.«01_k».proof.Proof.Values
public import Idealize.ShloMosaic.Lib.ValueIdxCore
public import Idealize.ShloMosaic.Lib.IdealHost
public import Idealize.ShloMosaic.Lib.Pipeline.Value
public import Idealize.ShloMosaic.PureOps.Ideal

@[expose] public section

noncomputable section

namespace Cert.Proof.Frames

open Cert.ReferenceIdeal Cert.ReferenceIdeal.Gen Idealize.ShloMosaic Idealize.ShloMosaic.TcCoe Idealize.SL.Sem Idealize.ShloMosaic.StableHlo

/-! ## The positions -/

/-- A real between 0 and 299, clipped to that range and converted, is the word of its integer part. -/
theorem word_of_clip (r : ℝ) (n : ℕ) (h0 : (n : ℝ) ≤ r) (h1 : r < n + 1) (h2 : r ≤ 299) :
    Ideal.fptosi 32 (min ((299 : ℝ) : EReal) (max ((0 : ℝ) : EReal) (r : EReal))) = BitVec.ofNat 32 n := by
  have hr : (0 : ℝ) ≤ r := le_trans (Nat.cast_nonneg n) h0
  have hn : n ≤ 299 := by exact_mod_cast h0.trans h2
  rw [max_eq_right (EReal.coe_le_coe_iff.2 hr), min_eq_right (EReal.coe_le_coe_iff.2 h2)]
  have hf : ⌊r⌋ = (n : ℤ) := Int.floor_eq_iff.2 ⟨by exact_mod_cast h0, by exact_mod_cast h1⟩
  rw [Ideal.fptosi, Ideal.toIntClamped_coe, if_pos hr, hf]
  have : max (-((2 ^ (32 - 1) : ℕ) : ℤ)) (min (((2 ^ (32 - 1) : ℕ) : ℤ) - 1) (n : ℤ)) = (n : ℤ) := by norm_num; omega
  rw [this, BitVec.ofInt_natCast]

/-- The ramp's value at step `k` of 31, as the reference spells it. -/
theorem ramp_eq (k : ℕ) : (0 : EReal) * (1 - Ideal.div ((k : ℝ) : EReal) ((31 : ℝ) : EReal))
    + ((299 : ℝ) : EReal) * Ideal.div ((k : ℝ) : EReal) ((31 : ℝ) : EReal) = ((299 * k / 31 : ℝ) : EReal) := by
  rw [Ideal.div_coe (by norm_num), zero_mul, zero_add, ← EReal.coe_mul, ← EReal.coe_mul]
  congr 1; ring

theorem ofBits_31_f32 : Ideal.ofBits .f32 0x41F80000#32 = ((31 : ℝ) : EReal) := by
  simp [Ideal.ofBits, Ideal.ieee, -EReal.coe_mul]; norm_num

/-- The ramp's first 31 values. -/
def ramp : FVec Ideal S31 .f32 :=
  addf (mulf (broadcastInDim S31 ![0] bcast_S1_S31_0 (shapeCast S1 (id (constant S_ .f32 0x00000000#32)) shapeCasts_S_S1))
      (subf (broadcastInDim S31 ![] bcast_S_S31 (constant S_ .f32 0x3F800000#32))
        (Host.divf (sitofp .f32 (iotaInDim S31 32 0)) (broadcastInDim S31 ![] bcast_S_S31 (constant S_ .f32 0x41F80000#32)))))
    (mulf (broadcastInDim S31 ![0] bcast_S1_S31_0 (shapeCast S1 (sitofp .f32 (constantI S_ 32 299#32)) shapeCasts_S_S1))
      (Host.divf (sitofp .f32 (iotaInDim S31 32 0)) (broadcastInDim S31 ![] bcast_S_S31 (constant S_ .f32 0x41F80000#32))))

theorem ramp_apply (i : S31.Idx) : ramp i = ((299 * ((i 0).val : ℝ) / 31 : ℝ) : EReal) := by
  have hi : (i 0).val < 31 := (i 0).isLt
  rw [← ramp_eq]
  show Ideal.ofBits .f32 0x00000000#32 * (Ideal.ofBits .f32 0x3F800000#32
      - Ideal.div (((BitVec.ofNat 32 (i 0).val).toInt : ℝ) : EReal) (Ideal.ofBits .f32 0x41F80000#32))
    + (((299#32 : BitVec 32).toInt : ℝ) : EReal)
      * Ideal.div (((BitVec.ofNat 32 (i 0).val).toInt : ℝ) : EReal) (Ideal.ofBits .f32 0x41F80000#32) = _
  have h1 : (BitVec.ofNat 32 (i 0).val).toInt = ((i 0).val : ℤ) := by
    rw [BitVec.toInt_eq_toNat_of_lt (by rw [BitVec.toNat_ofNat]; omega), BitVec.toNat_ofNat, Nat.mod_eq_of_lt (by omega)]
  have h2 : (299#32 : BitVec 32).toInt = 299 := by decide
  rw [h1, h2, ofBits_31_f32, Ideal.ofBits_one_f32, Ideal.ofBits_zero_f32, Int.cast_natCast]
  norm_num

/-- The positions the reference computes. -/
def positions : IVec S32 32 :=
  fptosi 32 (minimumf (broadcastInDim S32 ![] bcast_S_S32 (sitofp .f32 (constantI S_ 32 299#32)))
    (maximumf (broadcastInDim S32 ![] bcast_S_S32 (sitofp .f32 (constantI S_ 32 0#32)))
      (concatenate S32 0 [⟨S31, ramp⟩, ⟨S1, (broadcastInDim S1 ![] bcast_S_S1 (sitofp .f32 (constantI S_ 32 299#32)) : FVec Ideal S1 .f32)⟩]
        concatenates_S31_S1_S32_d0)))

theorem positions_apply (i : S32.Idx) : positions i = BitVec.ofNat 32 (299 * (i 0).val / 31) := by
  have hi : (i 0).val < 32 := (i 0).isLt
  have h299 : (299#32 : BitVec 32).toInt = 299 := by decide
  have h0 : (0#32 : BitVec 32).toInt = 0 := by decide
  have hc : (concatenate S32 0 [⟨S31, ramp⟩, ⟨S1, (broadcastInDim S1 ![] bcast_S_S1 (sitofp .f32 (constantI S_ 32 299#32)) : FVec Ideal S1 .f32)⟩]
      concatenates_S31_S1_S32_d0) i = ((299 * ((i 0).val : ℝ) / 31 : ℝ) : EReal) := by
    by_cases h : (i 0).val < 31
    · refine (concatenate_pair_apply_left (t := S32) (s₁ := S31) (s₂ := S1) (0 : Fin 1) _ _ concatenates_S31_S1_S32_d0 i rfl
        (ValueIdx.ix1 ⟨(i 0).val, h⟩) (fun b => ?_)).trans (ramp_apply _)
      obtain rfl : b = 0 := Subsingleton.elim _ _
      rfl
    · have e : (i 0).val = 31 := by omega
      refine (concatenate_pair_apply_right (t := S32) (s₁ := S31) (s₂ := S1) (0 : Fin 1) _ _ concatenates_S31_S1_S32_d0 i rfl rfl
        (ValueIdx.ix1 ⟨0, Nat.one_pos⟩) (fun b hb => absurd (Subsingleton.elim _ _) hb) (by show 0 + 31 = (i 0).val; omega)).trans ?_
      show (((299#32 : BitVec 32).toInt : ℝ) : EReal) = _
      rw [h299, e]; congr 1; norm_num
  show Ideal.fptosi 32 (min (((299#32 : BitVec 32).toInt : ℝ) : EReal) (max (((0#32 : BitVec 32).toInt : ℝ) : EReal)
    ((concatenate S32 0 [⟨S31, ramp⟩, ⟨S1, (broadcastInDim S1 ![] bcast_S_S1 (sitofp .f32 (constantI S_ 32 299#32)) : FVec Ideal S1 .f32)⟩]
      concatenates_S31_S1_S32_d0) i))) = _
  rw [hc, h299, h0, Int.cast_zero, show ((299 : ℤ) : ℝ) = 299 by norm_num]
  have hd := Nat.div_add_mod (299 * (i 0).val) 31
  have hm := Nat.mod_lt (299 * (i 0).val) (show 0 < 31 by norm_num)
  have hdr : (31 : ℝ) * ((299 * (i 0).val / 31 : ℕ) : ℝ) + ((299 * (i 0).val % 31 : ℕ) : ℝ) = 299 * ((i 0).val : ℝ) := by exact_mod_cast hd
  have hmr : ((299 * (i 0).val % 31 : ℕ) : ℝ) < 31 := by exact_mod_cast hm
  have hm0 : (0 : ℝ) ≤ ((299 * (i 0).val % 31 : ℕ) : ℝ) := Nat.cast_nonneg _
  have hir : ((i 0).val : ℝ) ≤ 31 := by exact_mod_cast (by omega : (i 0).val ≤ 31)
  refine word_of_clip _ _ ?_ ?_ ?_
  · rw [le_div_iff₀ (by norm_num)]; linarith
  · rw [div_lt_iff₀ (by norm_num)]; linarith
  · rw [div_le_iff₀ (by norm_num)]; linarith

/-! ## The gather and its guard -/

/-- The words of the positions as the gather's start indices: a negative one would count from the end. -/
def starts : IVec S32x1 32 :=
  broadcastInDim S32x1 ![0] bcast_S32_S32x1_0 (select (cmpi .slt positions (broadcastInDim S32 ![] bcast_S_S32 (constantI S_ 32 0#32)))
    (addi positions (broadcastInDim S32 ![] bcast_S_S32 (constantI S_ 32 300#32))) positions)

theorem starts_apply (i : S32x1.Idx) : starts i = BitVec.ofNat 32 (299 * (i 0).val / 31) := by
  have hk : starts i = (select (cmpi .slt positions (broadcastInDim S32 ![] bcast_S_S32 (constantI S_ 32 0#32)))
      (addi positions (broadcastInDim S32 ![] bcast_S_S32 (constantI S_ 32 300#32))) positions) (ValueIdx.ix1 (i 0)) := by
    refine broadcastInDim_apply ![0] bcast_S32_S32x1_0 _ i (ValueIdx.ix1 (i 0)) (fun a => ?_)
    obtain rfl : a = (0 : Fin 1) := Subsingleton.elim (α := Fin 1) _ _
    rfl
  rw [hk]
  show Scalar.select (IntOp.cmpi .slt (positions (ValueIdx.ix1 (i 0))) 0#32) (IntOp.addi (positions (ValueIdx.ix1 (i 0))) 300#32) (positions (ValueIdx.ix1 (i 0))) = _
  rw [positions_apply]
  show Scalar.select (IntOp.cmpi .slt (BitVec.ofNat 32 (299 * (i 0).val / 31)) 0#32)
    (IntOp.addi (BitVec.ofNat 32 (299 * (i 0).val / 31)) 300#32) (BitVec.ofNat 32 (299 * (i 0).val / 31)) = _
  have : ∀ k : Fin 32, Scalar.select (IntOp.cmpi .slt (BitVec.ofNat 32 (299 * k.val / 31)) 0#32)
    (IntOp.addi (BitVec.ofNat 32 (299 * k.val / 31)) 300#32) (BitVec.ofNat 32 (299 * k.val / 31)) = BitVec.ofNat 32 (299 * k.val / 31) := by decide
  exact this (i 0)

/-- Which start indices are in range, one bit each. -/
def inRange : IVec S32x1 1 :=
  andi (cmpi .sge starts (broadcastInDim S32x1 ![] bcast_S_S32x1 (constantI S_ 32 0#32)))
    (cmpi .sle starts (broadcastInDim S32x1 ![0, 1] bcast_S1x1_S32x1_0_1 (broadcastInDim S1x1 ![1] bcast_S1_S1x1_1 (constantI S1 32 299#32))))

theorem inRange_apply (i : S32x1.Idx) : inRange i = 1#1 := by
  show IntOp.andi (IntOp.cmpi .sge (starts i) 0#32) (IntOp.cmpi .sle (starts i) 299#32) = 1#1
  rw [starts_apply]
  have : ∀ k : Fin 32, IntOp.andi (IntOp.cmpi .sge (BitVec.ofNat 32 (299 * k.val / 31)) 0#32)
    (IntOp.cmpi .sle (BitVec.ofNat 32 (299 * k.val / 31)) 299#32) = 1#1 := by decide
  exact this (i 0)

/-- A conjunction over ones is one. -/
theorem all_ones {s t u : Shape} {axes : List (Fin s.rank)} (x : IVec s 1) (init : IVec u 1) (h : s.ReducesTo axes t) (hu : 0 < u.numel)
    (hx : ∀ i, x i = 1#1) (h1 : ∀ i, init i = 1#1) (j : t.Idx) : Host.reduce IntOp.andi x init h hu j = 1#1 := by
  unfold Host.reduce
  rw [h1]
  induction (List.finRange s.numel).filter fun n => h.drop (s.rowMajor.symm n) = j with
  | nil => rfl
  | cons a l ih => rw [List.foldl_cons, hx]; exact ih

/-- The gather reads the input at the position of the result's frame. -/
theorem gather_apply {α : Type} (X : S3x300x224x224.Idx → α) (y : S3x32x224x224.Idx) :
    Host.gather gather_S3x300x224x224_S32x1_S3x32x224x224_023_1_n_n_1_1_31224224 X starts y = X (srcIdx y) := by
  unfold Host.gather
  congr 1
  funext a
  refine Fin.ext ?_
  show gather_S3x300x224x224_S32x1_S3x32x224x224_023_1_n_n_1_1_31224224.start y starts a
    + gather_S3x300x224x224_S32x1_S3x32x224x224_023_1_n_n_1_1_31224224.batchCoord y a
    + gather_S3x300x224x224_S32x1_S3x32x224x224_023_1_n_n_1_1_31224224.offCoord y a = _
  rw [GatherDims.batchCoord_eq_zero _ _ _ List.not_mem_nil, Nat.add_zero]
  unfold GatherDims.start
  match a with
  | 0 => rw [dif_neg (by decide), Nat.zero_add]; rfl
  | 1 =>
    rw [dif_pos (by decide), GatherDims.offCoord_eq_zero _ _ _ (by decide), starts_apply]
    have : ∀ k : Fin 32, min (BitVec.ofNat 32 (299 * k.val / 31)).toInt.toNat (300 - 1) + 0 = 299 * k.val / 31 := by decide
    exact this (y 1)
  | 2 => rw [dif_neg (by decide), Nat.zero_add]; rfl
  | 3 => rw [dif_neg (by decide), Nat.zero_add]; rfl

/-- The reference's result is the input taken at the positions. -/
theorem ref_taken (m : (ℓ : Loc nD τ sig) → Buf (Elt Ideal) ℓ) (c : Dev nD) :
    Value.res_out0 m c = taken (m ((c.tc : Thread nD τ).loc main_arg0)) := by
  funext y
  show Scalar.select (broadcastInDim S3x32x224x224 ![1] bcast_S32_S3x32x224x224_1
      (Host.reduce IntOp.andi inRange (constantI S_ 1 1#1) reducesTo_S32x1_S32_d1 h_S_) y)
    (Host.gather gather_S3x300x224x224_S32x1_S3x32x224x224_023_1_n_n_1_1_31224224 (m ((c.tc : Thread nD τ).loc main_arg0)) starts y) _ = _
  rw [show broadcastInDim S3x32x224x224 ![1] bcast_S32_S3x32x224x224_1
      (Host.reduce IntOp.andi inRange (constantI S_ 1 1#1) reducesTo_S32x1_S32_d1 h_S_) y = 1#1 from
    all_ones inRange (constantI S_ 1 1#1) reducesTo_S32x1_S32_d1 h_S_ inRange_apply (fun _ => rfl) _, gather_apply]
  rfl

end Cert.Proof.Frames

end
-- ==== Proof.lean ====
/-
  The claims: the kernel's frame (as printed and idealized, one run), the reference's frame, the idealization, and the
  kernel's result against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

theorem frame_Kernel : Cert.quiescent_Kernel (hKernel := Cert.Kernel.Gen.facts) := fun m ρ _ =>
  (θ_run Cert.KernelIdeal.defs _ _).mono (fun _ h => ⟨fun c => (h.1 c).1, h.2⟩) (Frames.run_main (F := Bits) m ρ)
theorem frame_KernelIdeal : Cert.quiescent_KernelIdeal (hKernelIdeal := Cert.KernelIdeal.Gen.facts) := fun m ρ _ =>
  (θ_run Cert.KernelIdeal.defs _ _).mono (fun _ h => ⟨fun c => (h.1 c).1, h.2⟩) (Frames.run_main (F := Ideal) m ρ)

theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave one value: the input taken at the positions. -/
theorem value : Cert.algebraic_KernelIdeal_ReferenceIdeal (hKernelIdeal := Cert.KernelIdeal.Gen.facts) (hReferenceIdeal := Cert.ReferenceIdeal.Gen.facts) :=
  fun m g m' g' _ ha => ⟨fun c => Frames.taken (m (Frames.xLoc c)),
    (θ_run Cert.KernelIdeal.defs _ _).mono (fun _ h c => ⟨(h.1 c).2, (h.1 c).1⟩) (Frames.run_main (F := Ideal) m g),
    (θ_run Cert.ReferenceIdeal.defs _ _).mono
      (fun _ h c => ⟨((h c).1.trans (Frames.ref_taken m' c)).trans (congrArg Frames.taken (ha c)), (h c).2⟩)
      (Cert.ReferenceIdeal.Value.run (F := Ideal) m' g')⟩

theorem claim : Cert.Claim := ⟨Cert.Kernel.Gen.facts, Cert.KernelIdeal.Gen.facts, Cert.ReferenceIdeal.Gen.facts,
  frame_Kernel, frame_KernelIdeal, frame_ReferenceIdeal, trivial, value⟩

end Cert.Proof

end
